-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_node_each_and_finite [hPre_one_node_each_and_finite : Cert.Pre_one_node_each_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_one_node_each_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_node_each_and_finite [hPre_one_node_each_and_finite : Cert.Pre_one_node_each_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_node_each_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_one_node_each_and_finite [hKernelIdeal : Cert.KernelIdeal.Facts] [hPre_one_node_each_and_finite : Cert.Pre_one_node_each_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_node_each_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_one_node_each_and_finite [hReferenceIdeal : Cert.ReferenceIdeal.Facts] [hPre_one_node_each_and_finite : Cert.Pre_one_node_each_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_node_each_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_one_node_each_and_finite [hKernelIdeal : Cert.KernelIdeal.Facts] [hReferenceIdeal : Cert.ReferenceIdeal.Facts] [hPre_one_node_each_and_finite : Cert.Pre_one_node_each_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_node_each_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_one_node_each_and_finite : Cert.Pre_one_node_each_and_finite.Facts),
    quiescent_Kernel (hKernel := hKernel)
    ∧ quiescent_KernelIdeal (hKernelIdeal := hKernelIdeal)
    ∧ quiescent_KernelIdeal_pre_one_node_each_and_finite (hKernelIdeal := hKernelIdeal) (hPre_one_node_each_and_finite := hPre_one_node_each_and_finite)
    ∧ quiescent_ReferenceIdeal (hReferenceIdeal := hReferenceIdeal)
    ∧ quiescent_ReferenceIdeal_pre_one_node_each_and_finite (hReferenceIdeal := hReferenceIdeal) (hPre_one_node_each_and_finite := hPre_one_node_each_and_finite)
    ∧ preserves_Kernel_KernelIdeal
    ∧ algebraic_KernelIdeal_ReferenceIdeal_pre_one_node_each_and_finite (hKernelIdeal := hKernelIdeal) (hReferenceIdeal := hReferenceIdeal) (hPre_one_node_each_and_finite := hPre_one_node_each_and_finite)
-- ==== Pre_one_node_each_and_finite.lean ====
abbrev S16384x256 : Shape := ⟨2, ![16384, 256]⟩
abbrev S10000x256 : Shape := ⟨2, ![10000, 256]⟩
abbrev S16384 : Shape := ⟨1, ![16384]⟩
abbrev S_ : Shape := ⟨0, ![]⟩
abbrev S1x256 : Shape := ⟨2, ![1, 256]⟩
abbrev S1 : Shape := ⟨1, ![1]⟩
abbrev S256x1024 : Shape := ⟨2, ![256, 1024]⟩
abbrev S256 : Shape := ⟨1, ![256]⟩
abbrev S256x512 : Shape := ⟨2, ![256, 512]⟩
abbrev S256x256 : Shape := ⟨2, ![256, 256]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_
  slices_S256x512_S256x256_0_256 : S256x512.Slices ![0, 256] S256x256
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg9 : FVec F S1 .f32) (main_arg10 : FVec F S256x1024 .f32) (main_arg12 : FVec F S256x512 .f32) (main_v12 : IVec S_ 1) (main_v15 : IVec S1x256 1) (main_c_5 : IVec S_ 1) : IVec S_ 1 :=
  let main_v16 : IVec S_ 1 := (fun x v => Host.reduce IntOp.andi x v reducesTo_S1x256_S_d0_1 h_S_) main_v15 main_c_5
  let main_v17 : IVec S_ 1 := andi main_v12 main_v16
  let main_v18 : FVec F S1 .f32 := Host.absf main_arg9
  let main_cst_6 : FVec F S_ .f32 := constant S_ .f32 0x7F800000#32
  let main_v19 : FVec F S1 .f32 := broadcastInDim S1 ![] bcast_S_S1 main_cst_6
  let main_v20 : IVec S1 1 := cmpf .olt main_v18 main_v19
  let main_c_7 : IVec S_ 1 := constantI S_ 1 1#1
  let main_v21 : IVec S_ 1 := (fun x v => Host.reduce IntOp.andi x v reducesTo_S1_S_d0 h_S_) main_v20 main_c_7
  let main_v22 : IVec S_ 1 := andi main_v17 main_v21
  let main_v23 : FVec F S256x512 .f32 := (extractStridedSlice S256x512 ![0, 0] · slices_S256x1024_S256x512_0_0) main_arg10
  let main_v24 : FVec F S256x512 .f32 := Host.absf main_v23
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v22 main_v27
  let main_v29 : FVec F S256x256 .f32 := (extractStridedSlice S256x256 ![0, 256] · slices_S256x512_S256x256_0_256) main_arg12
  let main_v30 : FVec F S256x256 .f32 := Host.absf main_v29
  let main_cst_10 : FVec F S_ .f32 := constant S_ .f32 0x7F800000#32
  let main_v31 : FVec F S256x256 .f32 := broadcastInDim S256x256 ![] bcast_S_S256x256 main_cst_10
  let main_v32 : IVec S256x256 1 := cmpf .olt main_v30 main_v31
  let main_c_11 : IVec S_ 1 := constantI S_ 1 1#1
  let main_v33 : IVec S_ 1 := (fun x v => Host.reduce IntOp.andi x v reducesTo_S256x256_S_d0_1 h_S_) main_v32 main_c_11
  fn_part2 (F := F) main_v28 main_v33

def fn {F : FTy → Type} [FloatOps F] (main_arg0 : FVec F S16384x256 .f32) (main_arg1 : FVec F S16384x256 .f32) (main_arg2 : FVec F S10000x256 .f32) (main_arg3 : IVec S16384 32) (main_arg4 : FVec F S16384 .f32) (main_arg5 : FVec F S16384x256 .f32) (main_arg6 : IVec S_ 32) (main_arg7 : FVec F S16384x256 .f32) (main_arg8 : FVec F S1x256 .f32) (main_arg9 : FVec F S1 .f32) (main_arg10 : FVec F S256x1024 .f32) (main_arg11 : FVec F S256 .f32) (main_arg12 : FVec F S256x512 .f32) (main_arg13 : FVec F S256 .f32) : IVec S_ 1 :=
  let main_c : IVec S_ 32 := constantI S_ 32 1#32
  let main_v0 : IVec S16384 32 := broadcastInDim S16384 ![] bcast_S_S16384 main_c
  let main_v1 : IVec S16384 1 := cmpi .eq main_arg3 main_v0
  let main_c_0 : IVec S_ 1 := constantI S_ 1 1#1
  let main_v2 : IVec S_ 1 := (fun x v => Host.reduce IntOp.andi x v reducesTo_S16384_S_d0 h_S_) main_v1 main_c_0
  let main_v3 : FVec F S16384x256 .f32 := Host.absf main_arg0
  let main_cst : FVec F S_ .f32 := constant S_ .f32 0x7F800000#32
  let main_v4 : FVec F S16384x256 .f32 := broadcastInDim S16384x256 ![] bcast_S_S16384x256 main_cst
  let main_v5 : IVec S16384x256 1 := cmpf .olt main_v3 main_v4
  let main_c_1 : IVec S_ 1 := constantI S_ 1 1#1
  let main_v6 : IVec S_ 1 := (fun x v => Host.reduce IntOp.andi x v reducesTo_S16384x256_S_d0_1 h_S_) main_v5 main_c_1
  let main_v7 : IVec S_ 1 := andi main_v2 main_v6
  let main_v8 : FVec F S16384 .f32 := Host.absf main_arg4
  let main_cst_2 : FVec F S_ .f32 := constant S_ .f32 0x7F800000#32
  let main_v9 : FVec F S16384 .f32 := broadcastInDim S16384 ![] bcast_S_S16384 main_cst_2
  let main_v10 : IVec S16384 1 := cmpf .olt main_v8 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v7 main_v11
  let main_v13 : FVec F S1x256 .f32 := Host.absf main_arg8
  let main_cst_4 : FVec F S_ .f32 := constant S_ .f32 0x7F800000#32
  let main_v14 : FVec F S1x256 .f32 := broadcastInDim S1x256 ![] bcast_S_S1x256 main_cst_4
  let main_v15 : IVec S1x256 1 := cmpf .olt main_v13 main_v14
  let main_c_5 : IVec S_ 1 := constantI S_ 1 1#1
  fn_part1 (F := F) main_arg9 main_arg10 main_arg12 main_v12 main_v15 main_c_5
-- ==== Kernel.lean ====
abbrev S16384x256 : Shape := ⟨2, ![16384, 256]⟩
abbrev S10000x256 : Shape := ⟨2, ![10000, 256]⟩
abbrev S16384 : Shape := ⟨1, ![16384]⟩
abbrev S_ : Shape := ⟨0, ![]⟩
abbrev S1x256 : Shape := ⟨2, ![1, 256]⟩
abbrev S1 : Shape := ⟨1, ![1]⟩
abbrev S256x1024 : Shape := ⟨2, ![256, 1024]⟩
abbrev S256 : Shape := ⟨1, ![256]⟩
abbrev S256x512 : Shape := ⟨2, ![256, 512]⟩
abbrev S1x16384 : Shape := ⟨2, ![1, 16384]⟩
abbrev S256x1 : Shape := ⟨2, ![256, 1]⟩
abbrev S1x1 : Shape := ⟨2, ![1, 1]⟩
abbrev S1024x256 : Shape := ⟨2, ![1024, 256]⟩
abbrev S1x1024 : Shape := ⟨2, ![1, 1024]⟩
abbrev S256x256 : Shape := ⟨2, ![256, 256]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S10000x256, .f32⟩
  | .hbm, ⟨3, _⟩ => ⟨S16384, .i32⟩
  | .hbm, ⟨4, _⟩ => ⟨S16384, .f32⟩
  | .hbm, ⟨5, _⟩ => ⟨S16384x256, .f32⟩
  | .hbm, ⟨6, _⟩ => ⟨S_, .i32⟩
  | .hbm, ⟨7, _⟩ => ⟨S16384x256, .f32⟩
  | .hbm, ⟨8, _⟩ => ⟨S1x256, .f32⟩
  | .hbm, ⟨9, _⟩ => ⟨S1, .f32⟩
  | .hbm, ⟨10, _⟩ => ⟨S256x1024, .f32⟩
  | .hbm, ⟨11, _⟩ => ⟨S256, .f32⟩
  | .hbm, ⟨12, _⟩ => ⟨S256x512, .f32⟩
  | .hbm, ⟨13, _⟩ => ⟨S256, .f32⟩
  | .hbm, ⟨14, _⟩ => ⟨S1x16384, .f32⟩
  | .hbm, ⟨15, _⟩ => ⟨S1x256, .f32⟩
  | .hbm, ⟨16, _⟩ => ⟨S256x1, .f32⟩
  | .hbm, ⟨17, _⟩ => ⟨S1x1, .f32⟩
  | .hbm, ⟨18, _⟩ => ⟨S1x256, .f32⟩
  | .hbm, ⟨19, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S256x512, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x256 : Shape := ⟨2, ![16384, 256]⟩
abbrev S10000x256 : Shape := ⟨2, ![10000, 256]⟩
abbrev S16384 : Shape := ⟨1, ![16384]⟩
abbrev S_ : Shape := ⟨0, ![]⟩
abbrev S1x256 : Shape := ⟨2, ![1, 256]⟩
abbrev S1 : Shape := ⟨1, ![1]⟩
abbrev S256x1024 : Shape := ⟨2, ![256, 1024]⟩
abbrev S256 : Shape := ⟨1, ![256]⟩
abbrev S256x512 : Shape := ⟨2, ![256, 512]⟩
abbrev S16383 : Shape := ⟨1, ![16383]⟩
abbrev S16384x1 : Shape := ⟨2, ![16384, 1]⟩
abbrev S1x1 : Shape := ⟨2, ![1, 1]⟩
abbrev S16384x1024 : Shape := ⟨2, ![16384, 1024]⟩
abbrev S1024x256 : Shape := ⟨2, ![1024, 256]⟩
abbrev S256x1 : Shape := ⟨2, ![256, 1]⟩
abbrev S16384x512 : Shape := ⟨2, ![16384, 512]⟩
abbrev S512x256 : Shape := ⟨2, ![512, 256]⟩

abbrev nBuf : Space → Nat
  | .hbm => 151
  | .vmem => 0
  | .smem => 0
  | _ => 0

abbrev hbmTy0_0 (i : Nat) : BufTy := match i % 128 with
  | 0 => ⟨S16384x256, .f32⟩
  | 1 => ⟨S16384x256, .f32⟩
  | 2 => ⟨S10000x256, .f32⟩
  | 3 => ⟨S16384, .i32⟩
  | 4 => ⟨S16384, .f32⟩
  | 5 => ⟨S16384x256, .f32⟩
  | 6 => ⟨S_, .i32⟩
  | 7 => ⟨S16384x256, .f32⟩
  | 8 => ⟨S1x256, .f32⟩
  | 9 => ⟨S1, .f32⟩
  | 10 => ⟨S256x1024, .f32⟩
  | 11 => ⟨S256, .f32⟩
  | 12 => ⟨S256x512, .f32⟩
  | 13 => ⟨S256, .f32⟩
  | 14 => ⟨S16384, .i32⟩
  | 15 => ⟨S1, .i32⟩
  | 16 => ⟨S16383, .i32⟩
  | 17 => ⟨S16384, .i32⟩
  | 18 => ⟨S_, .i32⟩
  | 19 => ⟨S1, .i32⟩
  | 20 => ⟨S_, .i32⟩
  | 21 => ⟨S16384, .i32⟩
  | 22 => ⟨S_, .i32⟩
  | 23 => ⟨S_, .i32⟩
  | 24 => ⟨S16384, .i32⟩
  | 25 => ⟨S_, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S_, .i32⟩
  | 36 => ⟨S16384, .i32⟩
  | 37 => ⟨S16384, .i32⟩
  | 38 => ⟨S_, .i32⟩
  | 39 => ⟨S_, .i32⟩
  | 40 => ⟨S16384, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384, .i32⟩
  | 63 => ⟨S_, .i32⟩
  | 64 => ⟨S16384, .i32⟩
  | 65 => ⟨S16384, .i32⟩
  | 66 => ⟨S_, .i32⟩
  | 67 => ⟨S_, .i32⟩
  | 68 => ⟨S16384, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384x256, .f32⟩
  | 91 => ⟨S16384x256, .i1⟩
  | 92 => ⟨S_, .f32⟩
  | 93 => ⟨S16384x256, .f32⟩
  | 94 => ⟨S16384x256, .f32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x256, .f32⟩
  | 114 => ⟨S16384x256, .i1⟩
  | 115 => ⟨S_, .f32⟩
  | 116 => ⟨S16384x256, .f32⟩
  | 117 => ⟨S16384x256, .f32⟩
  | 118 => ⟨S16384x1024, .f32⟩
  | 119 => ⟨S1024x256, .f32⟩
  | 120 => ⟨S16384x256, .f32⟩
  | 121 => ⟨S1x256, .f32⟩
  | 122 => ⟨S16384x256, .f32⟩
  | 123 => ⟨S16384x256, .f32⟩
  | 124 => ⟨S16384x256, .f32⟩
  | 125 => ⟨S16384x256, .f32⟩
  | 126 => ⟨S_, .f32⟩
  | 127 => ⟨S16384x256, .f32⟩
  | _ => ⟨S16384x256, .f32⟩

abbrev hbmTy0_1 (i : Nat) : BufTy := match i % 128 with
  | 0 => ⟨S16384x256, .f32⟩
  | 1 => ⟨S_, .f32⟩
  | 2 => ⟨S16384x256, .f32⟩
  | 3 => ⟨S16384x256, .f32⟩
  | 4 => ⟨S256x1, .f32⟩
  | 5 => ⟨S16384x1, .f32⟩
  | 6 => ⟨S1x1, .f32⟩
  | 7 => ⟨S16384x1, .f32⟩
  | 8 => ⟨S16384x1, .f32⟩
  | 9 => ⟨S16384x1, .f32⟩
  | 10 => ⟨S16384x1, .f32⟩
  | 11 => ⟨S16384x256, .f32⟩
  | 12 => ⟨S16384x256, .f32⟩
  | 13 => ⟨S_, .f32⟩
  | 14 => ⟨S16384x256, .f32⟩
  | 15 => ⟨S16384x1, .i32⟩
  | 16 => ⟨S16384x256, .f32⟩
  | 17 => ⟨S16384x512, .f32⟩
  | 18 => ⟨S512x256, .f32⟩
  | 19 => ⟨S16384x256, .f32⟩
  | 20 => ⟨S1x256, .f32⟩
  | 21 => ⟨S16384x256, .f32⟩
  | 22 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_call1_call0_c : Ref sig .tc := ⟨.hbm, 22, rfl⟩
abbrev main_call1_call0_v0 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_v7 : Ref sig .tc := ⟨.hbm, 29, rfl⟩
abbrev main_c_3 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_v13 : Ref sig .tc := ⟨.hbm, 37, rfl⟩
abbrev main_call2_call0_c : Ref sig .tc := ⟨.hbm, 38, rfl⟩
abbrev main_call2_call0_v0 : Ref sig .tc := ⟨.hbm, 39, rfl⟩
abbrev main_v14 : Ref sig .tc := ⟨.hbm, 40, rfl⟩
abbrev main_c_5 : Ref sig .tc := ⟨.hbm, 41, rfl⟩
abbrev main_v15 : Ref sig .tc := ⟨.hbm, 42, rfl⟩
abbrev main_v16 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_c_4 : Ref sig .tc := ⟨.hbm, 63, rfl⟩
abbrev main_call3_v14 : Ref sig .tc := ⟨.hbm, 64, rfl⟩
abbrev main_v17 : Ref sig .tc := ⟨.hbm, 65, rfl⟩
abbrev main_call4_call0_c : Ref sig .tc := ⟨.hbm, 66, rfl⟩
abbrev main_call4_call0_v0 : Ref sig .tc := ⟨.hbm, 67, rfl⟩
abbrev main_v18 : Ref sig .tc := ⟨.hbm, 68, rfl⟩
abbrev main_c_6 : Ref sig .tc := ⟨.hbm, 69, rfl⟩
abbrev main_v19 : Ref sig .tc := ⟨.hbm, 70, rfl⟩
abbrev main_v20 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_v14 : Ref sig .tc := ⟨.hbm, 91, rfl⟩
abbrev main_call5_cst : Ref sig .tc := ⟨.hbm, 92, rfl⟩
abbrev main_call5_v15 : Ref sig .tc := ⟨.hbm, 93, rfl⟩
abbrev main_v21 : Ref sig .tc := ⟨.hbm, 94, rfl⟩
abbrev main_call6_c : Ref sig .tc := ⟨.hbm, 95, rfl⟩
abbrev main_call6_v0 : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_v5 : Ref sig .tc := ⟨.hbm, 102, rfl⟩
abbrev main_call6_c_1 : Ref sig .tc := ⟨.hbm, 103, rfl⟩
abbrev main_call6_c_2 : Ref sig .tc := ⟨.hbm, 104, rfl⟩
abbrev main_call6_v6 : Ref sig .tc := ⟨.hbm, 105, rfl⟩
abbrev main_call6_v7 : Ref sig .tc := ⟨.hbm, 106, rfl⟩
abbrev main_call6_v8 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_c_3 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_call6_cst : Ref sig .tc := ⟨.hbm, 115, rfl⟩
abbrev main_call6_v15 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_cst : Ref sig .tc := ⟨.hbm, 126, rfl⟩
abbrev main_v31 : Ref sig .tc := ⟨.hbm, 127, rfl⟩
abbrev main_v32 : Ref sig .tc := ⟨.hbm, 128, rfl⟩
abbrev main_cst_7 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_cst_8 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩

abbrev nD : Nat := 1
abbrev τ : Topo := Topo.v7x

variable {F : FTy → Type} [FloatOps F]
-- ==== Proof.RowMath.lean ====
/- One row of the result, as the kernel and as the reference arrange it, over the extended reals: the two arrangements
   and the theorem that they agree where what the kernel factors out of a sum is finite. Nothing here speaks of a
   program; a row is a function of its position and a weight a function of its two positions. -/
module

public import Idealize.ShloMosaic.PureOps.Ideal

@[expose] public section

noncomputable section

namespace Cert.RowMath

open Idealize.ShloMosaic

/-! ## The two arrangements -/

variable (n g u : Fin 256 → EReal) (c : EReal) (W2 : Fin 256 → Fin 1024 → EReal) (b2 W1 : Fin 256 → EReal) (b1 : EReal)
variable (W5 : Fin 256 → Fin 512 → EReal) (b5 : Fin 256 → EReal)

/-- The hidden layer before the logistic function, as the kernel has it: the two weights of the node row are added
    first. -/
def hidden (h : Fin 256) : EReal :=
  ((∑ k : Fin 256, n k * (W2 h ⟨k.val, by omega⟩ + W2 h ⟨256 + k.val, by omega⟩)
    + ∑ k : Fin 256, g k * W2 h ⟨512 + k.val, by omega⟩)
    + ∑ k : Fin 256, u k * W2 h ⟨768 + k.val, by omega⟩) + b2 h

/-- The attention weight of the row, before the row's count. -/
def attention : EReal := ∑ h : Fin 256, Ideal.logistic (hidden n g u W2 b2 h) * W1 h + b1

/-- Entry `j` of the row as the kernel has it: the weight of the row stands outside the second sum. -/
def kernelRow (j : Fin 256) : EReal :=
  (∑ k : Fin 256, n k * W5 j ⟨k.val, by omega⟩
    + (c * attention n g u W2 b2 W1 b1) * ∑ k : Fin 256, n k * W5 j ⟨256 + k.val, by omega⟩) + b5 j

/-- The hidden layer before the logistic function, as the reference has it: the four products summed one by one. -/
def refHidden (h : Fin 256) : EReal :=
  (∑ k : Fin 256, n k * W2 h ⟨k.val, by omega⟩ + (∑ k : Fin 256, n k * W2 h ⟨256 + k.val, by omega⟩
    + (∑ k : Fin 256, g k * W2 h ⟨512 + k.val, by omega⟩ + ∑ k : Fin 256, u k * W2 h ⟨768 + k.val, by omega⟩))) + b2 h

/-- The attention weight of the row in the reference, before the row's count. -/
def refAttention : EReal := ∑ h : Fin 256, Ideal.logistic (refHidden n g u W2 b2 h) * W1 h + b1

/-- Entry `j` of the row as the reference has it: the weight of the row stands inside the second sum. -/
def refRow (j : Fin 256) : EReal :=
  (∑ k : Fin 256, n k * W5 j ⟨k.val, by omega⟩
    + ∑ k : Fin 256, ((c * refAttention n g u W2 b2 W1 b1) * n k) * W5 j ⟨256 + k.val, by omega⟩) + b5 j

/-! ## Finite extended reals -/

/-- `x` is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers, taken in the extended reals, is their sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose r hr using h
  exact ⟨∑ i ∈ s, r i, by rw [← sum_coe]; exact Finset.sum_congr rfl fun i _ => hr i⟩

/-- A real number distributes over a sum of two real numbers. -/
theorem IsReal.mul_add {x y z : EReal} (hx : IsReal x) (hy : IsReal y) (hz : IsReal z) : x * (y + z) = x * y + x * z := by
  obtain ⟨a, rfl⟩ := hx
  obtain ⟨b, rfl⟩ := hy
  obtain ⟨d, rfl⟩ := hz
  rw [← EReal.coe_add, ← EReal.coe_mul, ← EReal.coe_mul, ← EReal.coe_mul, ← EReal.coe_add, _root_.mul_add]

/-- A real factor common to real summands may be taken out of the sum. -/
theorem mul_sum_of_isReal {ι : Type} (s : Finset ι) {x : EReal} {f : ι → EReal} (hx : IsReal x) (h : ∀ i, IsReal (f i)) :
    x * ∑ i ∈ s, f i = ∑ i ∈ s, x * f i := by
  obtain ⟨a, rfl⟩ := hx
  choose r hr using h
  obtain rfl : f = fun i => (r i : EReal) := funext hr
  simp only [← EReal.coe_mul, sum_coe, Finset.mul_sum]

/-- An extended real below infinity in absolute value is a real number. -/
theorem isReal_of_abs_lt {x : EReal} (h : max x (-x) < ⊤) : IsReal x := by
  induction x with
  | bot => simp at h
  | top => simp at h
  | coe r => exact ⟨r, rfl⟩

/-- The logistic function is a real number everywhere, at the infinities too. -/
theorem isReal_logistic (x : EReal) : IsReal (Ideal.logistic x) := by
  unfold Ideal.logistic
  induction x with
  | bot =>
    refine ⟨0, ?_⟩
    rw [EReal.neg_bot]
    show Ideal.div 1 (1 + ⊤) = _
    rw [EReal.add_top_of_ne_bot (by exact_mod_cast EReal.coe_ne_bot 1)]
    unfold Ideal.div
    simp
  | top =>
    refine ⟨1, ?_⟩
    rw [EReal.neg_top]
    show Ideal.div 1 (1 + 0) = _
    unfold Ideal.div
    simp
  | coe r =>
    refine ⟨(1 + Real.exp (-r))⁻¹, ?_⟩
    have e : (1 : EReal) + Ideal.exp (-(r : EReal)) = ((1 + Real.exp (-r) : ℝ) : EReal) := by
      rw [← EReal.coe_neg]
      rfl
    have hne : (1 + Real.exp (-r) : ℝ) ≠ 0 := by positivity
    rw [e]
    unfold Ideal.div
    rw [if_neg (by exact_mod_cast hne), one_mul, EReal.coe_inv]

/-! ## The arrangements agree -/

variable {n g u c W2 b2 W1 b1 W5 b5}

/-- The hidden layers agree where the node row and its weights are finite. -/
theorem hidden_eq (hn : ∀ k, IsReal (n k)) (hW2 : ∀ h (k : Fin 1024), k.val < 512 → IsReal (W2 h k)) (h : Fin 256) :
    hidden n g u W2 b2 h = refHidden n g u W2 b2 h := by
  unfold hidden refHidden
  have e : ∀ k : Fin 256, n k * (W2 h ⟨k.val, by omega⟩ + W2 h ⟨256 + k.val, by omega⟩)
      = n k * W2 h ⟨k.val, by omega⟩ + n k * W2 h ⟨256 + k.val, by omega⟩ := fun k =>
    IsReal.mul_add (hn k) (hW2 _ _ (by show k.val < 512; omega)) (hW2 _ _ (by show 256 + k.val < 512; omega))
  rw [Finset.sum_congr rfl fun k _ => e k, Finset.sum_add_distrib]
  simp only [add_assoc]

/-- The row's attention weight is finite where its last layer is. -/
theorem isReal_attention (hW1 : ∀ h, IsReal (W1 h)) (hb1 : IsReal b1) : IsReal (refAttention n g u W2 b2 W1 b1) :=
  (IsReal.sum _ fun h => (isReal_logistic _).mul (hW1 h)).add hb1

/-- THE TWO ARRANGEMENTS AGREE where the node row, its count, the weights that meet the node row inside a sum and the
    last attention layer are finite; the other inputs are free. -/
theorem kernelRow_eq (hn : ∀ k, IsReal (n k)) (hc : IsReal c) (hW2 : ∀ h (k : Fin 1024), k.val < 512 → IsReal (W2 h k))
    (hW1 : ∀ h, IsReal (W1 h)) (hb1 : IsReal b1) (hW5 : ∀ j (k : Fin 512), 256 ≤ k.val → IsReal (W5 j k)) (j : Fin 256) :
    kernelRow n g u c W2 b2 W1 b1 W5 b5 j = refRow n g u c W2 b2 W1 b1 W5 b5 j := by
  unfold kernelRow refRow
  have ea : attention n g u W2 b2 W1 b1 = refAttention n g u W2 b2 W1 b1 := by
    unfold attention refAttention
    simp only [hidden_eq hn hW2]
  rw [ea, mul_sum_of_isReal _ (hc.mul (isReal_attention hW1 hb1)) fun k => (hn k).mul (hW5 j _ (by show 256 ≤ 256 + k.val; omega))]
  simp only [mul_assoc]

end Cert.RowMath
-- ==== Proof.Block.lean ====
/- What the kernel's body writes to a block of rows, read at an index: the row of `Cert.RowMath.kernelRow`. The count
   of a row reaches it through a product with a 0/1 diagonal matrix, which turns a line of counts into a column. -/
module

public import proofs.«01_k».proof.Proof.Gen.KernelIdeal.Frame
public import proofs.«01_k».proof.Proof.RowMath
public import Idealize.ShloMosaic.Lib.Pointwise

@[expose] public section

set_option maxRecDepth 65536

noncomputable section

namespace Cert.Block

open Idealize.ShloMosaic Cert.RowMath
open Cert.KernelIdeal Cert.KernelIdeal.Gen

/-- An entry of the diagonal matrix as a number: one on the diagonal, zero off it. -/
theorem diagonal {a b : ℕ} (ha : a < 256) (hb : b < 256) :
    FloatOps.sitofp (F := Ideal) FTy.f32 (BitVec.setWidth 32 (IntOp.cmpi CmpIPredicate.eq (BitVec.ofNat 32 a) (BitVec.ofNat 32 b)))
      = (if a = b then 1 else 0 : EReal) := by
  have cmp : IntOp.cmpi CmpIPredicate.eq (BitVec.ofNat 32 a) (BitVec.ofNat 32 b) = if a = b then 1#1 else 0#1 := by
    by_cases h : a = b
    · subst h
      simp [IntOp.cmpi]
    · have hne : BitVec.ofNat 32 a ≠ BitVec.ofNat 32 b := fun q => h (by
        have := congrArg BitVec.toNat q
        simp only [BitVec.toNat_ofNat] at this
        omega)
      rw [if_neg h]
      simp only [IntOp.cmpi, beq_eq_false_iff_ne.2 hne]
      rfl
  rw [cmp]
  by_cases h : a = b
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- The sum of a line against row `a` of the diagonal matrix is the line's entry `a`. -/
theorem diagonal_sum {a : ℕ} (ha : a < 256) (f : Fin 256 → EReal) :
    ∑ x : Fin 256, FloatOps.sitofp (F := Ideal) FTy.f32
        (BitVec.setWidth 32 (IntOp.cmpi CmpIPredicate.eq (BitVec.ofNat 32 a) (BitVec.ofNat 32 x.val))) * f x = f ⟨a, ha⟩ := by
  rw [Finset.sum_eq_single (⟨a, ha⟩ : Fin 256) (fun x _ hx => ?_) (fun h => absurd (Finset.mem_univ _) h)]
  · rw [diagonal ha ha, if_pos rfl, one_mul]
  · rw [diagonal ha x.isLt, if_neg fun q => hx (Fin.ext q.symm), zero_mul]

/-- The column of counts: entry `r` is the line's entry `r`. -/
theorem counts_column (c : Vec Ideal S1x1024 .f32) (r : Fin 1024) : k0_pay3 (F := Ideal) c (ix2 r 0) = c (ix2 0 r) := by
  pointwise [k0_pay3]
  have hr := r.isLt
  split
  · next h => exact diagonal_sum h fun x => c (ix2 0 ⟨x.val, by omega⟩)
  · next h0 =>
    split
    · next h =>
      refine (diagonal_sum h fun x => c (ix2 0 ⟨256 + x.val, by omega⟩)).trans ?_
      exact congrArg (fun q => c (ix2 0 q)) (Fin.ext (by show 256 + (r.val - 256) = r.val; omega))
    · next h1 =>
      split
      · next h =>
        refine (diagonal_sum h fun x => c (ix2 0 ⟨512 + x.val, by omega⟩)).trans ?_
        exact congrArg (fun q => c (ix2 0 q)) (Fin.ext (by show 512 + (r.val - 256 - 256) = r.val; omega))
      · next h2 =>
        refine (diagonal_sum (by omega) fun x => c (ix2 0 ⟨768 + x.val, by omega⟩)).trans ?_
        exact congrArg (fun q => c (ix2 0 q)) (Fin.ext (by show 768 + (r.val - 256 - 256 - 256) = r.val; omega))

/-- The hidden layer of a block: the logistic function of the row's hidden layer. -/
theorem hidden_block (n g u : Vec Ideal S1024x256 .f32) (W2 : Vec Ideal S256x1024 .f32) (b2 : Vec Ideal S1x256 .f32)
    (r : Fin 1024) (h : Fin 256) :
    k0_pay2 (F := Ideal) n W2 g u b2 (ix2 r h)
      = Ideal.logistic (hidden (fun k => n (ix2 r k)) (fun k => g (ix2 r k)) (fun k => u (ix2 r k)) (fun h k => W2 (ix2 h k))
          (fun h => b2 (ix2 0 h)) h) := by
  pointwise [k0_pay2]
  rfl

/-- THE BODY'S BLOCK, entry `(r, j)`: the kernel's row over row `r` of the blocks of rows, the count `r` and the weights. -/
theorem body_apply (n g u : Vec Ideal S1024x256 .f32) (c : Vec Ideal S1x1024 .f32) (W2 : Vec Ideal S256x1024 .f32)
    (b2 : Vec Ideal S1x256 .f32) (W1 : Vec Ideal S256x1 .f32) (b1 : Vec Ideal S1x1 .f32) (W5 : Vec Ideal S256x512 .f32)
    (b5 : Vec Ideal S1x256 .f32) (r : Fin 1024) (j : Fin 256) :
    k0_pay1 (F := Ideal) n (k0_pay2 n W2 g u b2) (k0_pay3 c) (k0_pay4 W1) (constant S1024x1 .f32 0x00000000#32) W5 b1 b5 (ix2 r j)
      = kernelRow (fun k => n (ix2 r k)) (fun k => g (ix2 r k)) (fun k => u (ix2 r k)) (c (ix2 0 r)) (fun h k => W2 (ix2 h k))
          (fun h => b2 (ix2 0 h)) (fun h => W1 (ix2 h 0)) (b1 (ix2 0 0)) (fun j k => W5 (ix2 j k)) (fun j => b5 (ix2 0 j)) j := by
  generalize hX : k0_pay2 n W2 g u b2 = X
  generalize hY : k0_pay3 c = Y
  pointwise [k0_pay1, k0_pay4]
  subst hX hY
  simp only [counts_column, hidden_block]
  rfl

end Cert.Block
-- ==== Proof.KernelValue.lean ====
/- The kernel's result array after the run: entry `(r, j)` is `Cert.RowMath.kernelRow` over row `r` of the arguments. -/
module

public import proofs.«01_k».proof.Proof.Gen.KernelIdeal.Value
public import proofs.«01_k».proof.Proof.Block
public import Idealize.ShloMosaic.Lib.Pipeline.ValueKit

@[expose] public section

set_option maxRecDepth 65536

noncomputable section

namespace Cert.KernelValue

open Idealize.ShloMosaic Idealize.ShloMosaic.TcCoe Idealize.SL.Sem Cert.RowMath
open Cert.KernelIdeal Cert.KernelIdeal.Gen

/-- The kernel's result as a function of the arguments: node rows, attention rows, user rows, counts, the two attention
    layers' weights and biases, and the output layer's. -/
def kernelOut (n g u : S16384x256.Idx → EReal) (cnt : S16384.Idx → EReal) (W1 : S1x256.Idx → EReal) (b1 : S1.Idx → EReal)
    (W2 : S256x1024.Idx → EReal) (b2 : S256.Idx → EReal) (W5 : S256x512.Idx → EReal) (b5 : S256.Idx → EReal) : S16384x256.Idx → EReal :=
  fun i => kernelRow (fun k => n (ix2 (i 0) k)) (fun k => g (ix2 (i 0) k)) (fun k => u (ix2 (i 0) k)) (cnt (ix1 (i 0)))
    (fun h k => W2 (ix2 h k)) (fun h => b2 (ix1 h)) (fun h => W1 (ix2 0 h)) (b1 (ix1 0)) (fun j k => W5 (ix2 j k)) (fun j => b5 (ix1 j)) (i 1)

variable (m : (ℓ : Loc nD τ sig) → Buf (Elt Ideal) ℓ)

/-- Where each window's block lies at grid point `t`: the four windows of rows at block `t`, the six weights whole. -/
theorem idx : ∀ t : Fin cfg0.N, win0_0.index t = ![t.val, 0] ∧ win0_1.index t = ![t.val, 0] ∧ win0_2.index t = ![t.val, 0]
    ∧ win0_3.index t = ![0, t.val] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- Row `r` of block `t` is row `1024 t + r` of the array. -/
def row (t : Fin cfg0.N) (r : Fin 1024) : Fin 16384 := ⟨t.val * 1024 + r.val, by
  have h : t.val < 16 := t.isLt
  omega⟩

/-! ## The blocks read at an index -/

theorem nodes (c : Dev nD) (t : Fin cfg0.N) (r : Fin 1024) (k : Fin 256) :
    iblk m c 0 t (ix2 r k) = m ((c : Thread nD τ).loc main_arg0) (ix2 (row t r) k) := by
  unfold row
  blk_ext [iblk, V_main_arg0, (idx t).1]

theorem attn (c : Dev nD) (t : Fin cfg0.N) (r : Fin 1024) (k : Fin 256) :
    iblk m c 1 t (ix2 r k) = m ((c : Thread nD τ).loc main_arg1) (ix2 (row t r) k) := by
  unfold row
  blk_ext [iblk, V_main_arg1, (idx t).2.1]

theorem users (c : Dev nD) (t : Fin cfg0.N) (r : Fin 1024) (k : Fin 256) :
    iblk m c 2 t (ix2 r k) = m ((c : Thread nD τ).loc main_arg7) (ix2 (row t r) k) := by
  unfold row
  blk_ext [iblk, V_main_arg7, (idx t).2.2.1]

theorem counts (c : Dev nD) (t : Fin cfg0.N) (r : Fin 1024) :
    iblk m c 3 t (ix2 0 r) = m ((c : Thread nD τ).loc main_arg4) (ix1 (row t r)) := by
  unfold row
  blk_ext! [iblk, (idx t).2.2.2.1]

theorem weights2 (c : Dev nD) (t : Fin cfg0.N) (h : Fin 256) (k : Fin 1024) :
    iblk m c 4 t (ix2 h k) = m ((c : Thread nD τ).loc main_arg10) (ix2 h k) := by
  blk_ext [iblk, V_main_arg10, (idx t).2.2.2.2.1]

theorem bias2 (c : Dev nD) (t : Fin cfg0.N) (h : Fin 256) :
    iblk m c 5 t (ix2 0 h) = m ((c : Thread nD τ).loc main_arg11) (ix1 h) := by
  blk_ext! [iblk, (idx t).2.2.2.2.2.1]

theorem weights1 (c : Dev nD) (t : Fin cfg0.N) (h : Fin 256) :
    iblk m c 6 t (ix2 h 0) = m ((c : Thread nD τ).loc main_arg8) (ix2 0 h) := by
  have e : V m c main_call0_v2 = transpose S256x1 [1, 0] (m ((c : Thread nD τ).loc main_arg8)) transposes_S1x256_S256x1_1_0 := by
    entry_read
    rfl
  have hp : ((win0_6.blk t).view.emb (ix2 h 0)) = ix2 h 0 := by blk_ext [(idx t).2.2.2.2.2.2.1]
  simp only [iblk]
  show V m c main_call0_v2 ((win0_6.blk t).view.emb (ix2 h 0)) = _
  rw [e, hp]
  pointwise

theorem bias1 (c : Dev nD) (t : Fin cfg0.N) : iblk m c 7 t (ix2 0 0) = m ((c : Thread nD τ).loc main_arg9) (ix1 0) := by
  blk_ext! [iblk, (idx t).2.2.2.2.2.2.2.1]

theorem weights5 (c : Dev nD) (t : Fin cfg0.N) (j : Fin 256) (k : Fin 512) :
    iblk m c 8 t (ix2 j k) = m ((c : Thread nD τ).loc main_arg12) (ix2 j k) := by
  blk_ext [iblk, V_main_arg12, (idx t).2.2.2.2.2.2.2.2.1]

theorem bias5 (c : Dev nD) (t : Fin cfg0.N) (j : Fin 256) :
    iblk m c 9 t (ix2 0 j) = m ((c : Thread nD τ).loc main_arg13) (ix1 j) := by
  blk_ext! [iblk, (idx t).2.2.2.2.2.2.2.2.2.1]

/-! ## The array -/

/-- What point `t` writes at `(r, j)` of its block: entry `(1024 t + r, j)` of the result. -/
theorem point (c : Dev nD) (t : Fin cfg0.N) (r : Fin 1024) (j : Fin 256) :
    k0_pay1 (F := Ideal) (iblk m c 0 t) (k0_pay2 (iblk m c 0 t) (iblk m c 4 t) (iblk m c 1 t) (iblk m c 2 t) (iblk m c 5 t))
        (k0_pay3 (iblk m c 3 t)) (k0_pay4 (iblk m c 6 t)) (constant S1024x1 FTy.f32 0x00000000#32) (iblk m c 8 t) (iblk m c 7 t)
        (iblk m c 9 t) (ix2 r j)
      = kernelOut (m ((c : Thread nD τ).loc main_arg0)) (m ((c : Thread nD τ).loc main_arg1)) (m ((c : Thread nD τ).loc main_arg7))
          (m ((c : Thread nD τ).loc main_arg4)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (ix2 (row t r) j) := by
  refine (Block.body_apply _ _ _ _ _ _ _ _ _ _ _ _).trans ?_
  simp only [nodes, attn, users, counts, weights2, bias2, weights1, bias1, weights5, bias5]
  rfl

/-- THE RESULT ARRAY after the run. -/
theorem array (c : Dev nD) : (dats m 0 c).arrAt 10 cfg0.N
    = kernelOut (m ((c : Thread nD τ).loc main_arg0)) (m ((c : Thread nD τ).loc main_arg1)) (m ((c : Thread nD τ).loc main_arg7))
        (m ((c : Thread nD τ).loc main_arg4)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) := by
  refine (dats m 0 c).arrAt_eq_of_covers 10 _ (by decide +kernel) fun t hf y => ?_
  blk_simp
  rw [after0_10]
  frame_out
  have ey : ∀ (r : Fin 1024) (j : Fin 256), ((View.whole main_v0).slice (win0_10.rect t)).emb (ix2 r j) = ix2 (row t r) j := fun r j => by
    unfold row
    blk_ext [(idx t).2.2.2.2.2.2.2.2.2.2]
  obtain ⟨r, j, rfl⟩ : ∃ (r : Fin 1024) (j : Fin 256), y = ix2 r j := ⟨y 0, y 1, eq_ix2 y⟩
  rw [ey]
  exact point m c t r j

end Cert.KernelValue
-- ==== Proof.Segments.lean ====
/- The integer part of the reference when every section holds one node. The reference turns the section sizes into
   node and segment numbers by running sums, a scatter of ones and three takes; with every section of size one all
   of these number the rows `0, 1, 2, …`, so a take returns the array it reads and the segment of row `r` is `r`. -/
module

public import proofs.«01_k».proof.Proof.Gen.ReferenceIdeal.Read
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.ReduceAll

@[expose] public section

set_option maxRecDepth 65536

noncomputable section

namespace Cert.Segments

open Idealize.ShloMosaic Idealize.ShloMosaic.Routing Idealize.ShloMosaic.ValueIdx
open Cert.ReferenceIdeal Cert.ReferenceIdeal.Gen Cert.ReferenceIdeal.Read

/-! ## Words and counts -/

/-- A prefix of the constant one sums to its length. -/
theorem sum_ones (n : ℕ) : ((List.range n).map fun _ => 1).sum = n := by simp

/-- A prefix of `0, 1, 1, …` sums to its length less one. -/
theorem sum_shifted (n : ℕ) : ((List.range (n + 1)).map fun i => if i = 0 then 0 else 1).sum = n := by
  induction n with
  | zero => rfl
  | succ n ih =>
    rw [List.range_succ, List.map_append, List.sum_append, ih]
    simp

/-- Exactly one number below `N` is `x`. -/
theorem count_self {N x : ℕ} (h : x < N) : Nat.count (fun i => i = x) N = 1 := by
  rw [Nat.count_eq_card_filter_range, Finset.filter_eq', if_pos (Finset.mem_range.2 h), Finset.card_singleton]

/-- A row number, read signed, is itself. -/
theorem toInt_row {n : ℕ} (h : n < 16384) : (BitVec.ofNat 32 n).toInt = n :=
  StableHlo.Predicate.toInt_ofNat_small n (by omega)

/-- The wrap of a negative index leaves a row number as it is. -/
theorem wrap_row {n : ℕ} (h : n < 16384) (a : BitVec 32) :
    Scalar.select (IntOp.cmpi .slt (BitVec.ofNat 32 n) 0#32) a (BitVec.ofNat 32 n) = BitVec.ofNat 32 n :=
  wrap_of_lt _ _ (by rw [BitVec.toNat_ofNat]; omega)

/-- A row number is within the bounds that a take checks. -/
theorem row_in_bounds {n : ℕ} (h : n < 16384) :
    IntOp.andi (IntOp.cmpi .sge (BitVec.ofNat 32 n) 0#32) (IntOp.cmpi .sle (BitVec.ofNat 32 n) 16383#32) = 1#1 := by
  have e := toInt_row h
  have h1 : IntOp.cmpi .sge (BitVec.ofNat 32 n) 0#32 = 1#1 := by
    simp only [IntOp.cmpi, BitVec.sle, e]
    simp
  have h2 : IntOp.cmpi .sle (BitVec.ofNat 32 n) 16383#32 = 1#1 := by
    have e' : (16383#32 : BitVec 32).toInt = 16383 := by decide
    simp only [IntOp.cmpi, BitVec.sle, e, e']
    rw [decide_eq_true (by omega)]
    rfl
  rw [h1, h2]; rfl

/-- One less than the word of `n + 1` is the word of `n`. -/
theorem word_pred (n : ℕ) : IntOp.subi (BitVec.ofNat 32 (n + 1)) 1#32 = BitVec.ofNat 32 n := by
  unfold IntOp.subi
  rw [BitVec.ofNat_add]
  exact BitVec.add_sub_cancel _ _

/-! ## The row numbers -/

variable {F : FTy → Type} [FloatOps F]
variable {x3 : (⟨S16384, .i32⟩ : BufTy).Contents (Elt F)}

/-- The rolled section sizes are all one. -/
theorem rolled (h : ∀ i, x3 i = 1#32) (i : S16384.Idx) : val_main_v1 (F := F) x3 i = 1#32 := by
  have hp : ∀ p ∈ ([⟨S1, val_main_call0_v0 (F := F) x3⟩, ⟨S16383, val_main_call0_v1 (F := F) x3⟩] : List ((s : Shape) × (s.Idx → BitVec 32))),
      ∀ j, p.2 j = 1#32 := by
    simp only [List.forall_mem_cons]
    exact ⟨fun j => (val_main_call0_v0_apply x3 j).trans (h _), fun j => (val_main_call0_v1_apply x3 j).trans (h _), nofun⟩
  unfold val_main_v1 concatenate
  exact hp _ (List.getElem_mem _) _

/-- The rolled sizes with the first replaced by zero. -/
theorem shifted (h : ∀ i, x3 i = 1#32) (e : Fin 16384) :
    val_main_v3 (F := F) x3 (ix1 e) = BitVec.ofNat 32 (if e.val = 0 then 0 else 1) := by
  unfold val_main_v3
  rw [scatter_one (N := 16384) scatter_S16384_S1_S__n_0_0_0 rfl rfl (val_main_v1 (F := F) x3) (val_main_v2 (F := F)) (val_main_c_0 (F := F))
    (⟨0, by decide⟩ : Fin 16384) (by decide) (by rw [val_main_v2_apply]; rfl) e]
  by_cases he : e.val = 0
  · rw [if_pos (Fin.ext he), if_pos he]; rfl
  · rw [if_neg (fun q => he (congrArg Fin.val q)), if_neg he, rolled h]

/-- The first row of each section: row `e` for section `e`. -/
theorem starts (h : ∀ i, x3 i = 1#32) (e : Fin 16384) : val_main_v4 (F := F) x3 (ix1 e) = BitVec.ofNat 32 e.val := by
  unfold val_main_v4
  rw [cumsum1 (N := 16384) (Nm1 := 16383) rfl (val_main_v3 (F := F) x3) (fun i => if i = 0 then 0 else 1) (shifted h)
    (val_main_call1_call0_v0 (F := F)) (by rw [val_main_call1_call0_v0_apply]; rfl) _ _ e, sum_shifted]

/-- The same as the indices of a scatter. -/
theorem start_column (h : ∀ i, x3 i = 1#32) (e : Fin 16384) :
    val_main_v11 (F := F) x3 (ix2 e (0 : Fin 1)) = BitVec.ofNat 32 e.val := by
  have hs : val_main_v4 (F := F) x3 (idx_main_v11 (ix2 e (0 : Fin 1))) = BitVec.ofNat 32 e.val :=
    (congrArg _ (eq_ix1 _)).trans (starts h e)
  rw [val_main_v11_apply, val_main_v10_apply, val_main_v7_apply, val_main_v6_apply, val_main_c_2_apply, hs]
  exact wrap_row e.isLt _

/-- How many sections start at a row: one. -/
theorem marks (h : ∀ i, x3 i = 1#32) (e : Fin 16384) : val_main_v13 (F := F) x3 (ix1 e) = BitVec.ofNat 32 1 := by
  unfold val_main_v13
  rw [scatter_hist (N := 16384) scatter_S16384_S16384x1_S16384_n_0_0_1 rfl rfl rfl (val_main_v5 (F := F))
    (fun i => by rw [val_main_v5_apply]; rfl) (val_main_v11 (F := F) x3) (val_main_v12 (F := F))
    (fun i => by rw [val_main_v12_apply]; rfl) id (start_column h) (fun i => by have := i.isLt; simp only [id]; omega) e]
  exact congrArg _ (count_self e.isLt)

/-- The position of a row's section: row `e` is in section `e`. -/
theorem positions (h : ∀ i, x3 i = 1#32) (e : Fin 16384) : val_main_v16 (F := F) x3 (ix1 e) = BitVec.ofNat 32 e.val := by
  have hc : val_main_v14 (F := F) x3 (ix1 e) = BitVec.ofNat 32 (e.val + 1) := by
    unfold val_main_v14
    rw [cumsum1 (N := 16384) (Nm1 := 16383) rfl (val_main_v13 (F := F) x3) (fun _ => 1) (marks h)
      (val_main_call2_call0_v0 (F := F)) (by rw [val_main_call2_call0_v0_apply]; rfl) _ _ e, sum_ones]
  rw [val_main_v16_apply, val_main_v15_apply, hc]
  exact word_pred e.val

/-- The last row of each section: row `e` for section `e`. -/
theorem lasts (h : ∀ i, x3 i = 1#32) (e : Fin 16384) : val_main_v20 (F := F) x3 (ix1 e) = BitVec.ofNat 32 e.val := by
  have hc : val_main_v18 (F := F) x3 (ix1 e) = BitVec.ofNat 32 (e.val + 1) := by
    unfold val_main_v18
    rw [cumsum1 (N := 16384) (Nm1 := 16383) rfl x3 (fun _ => 1) (fun i => h _)
      (val_main_call4_call0_v0 (F := F)) (by rw [val_main_call4_call0_v0_apply]; rfl) _ _ e, sum_ones]
  rw [val_main_v20_apply, val_main_v19_apply, hc]
  exact word_pred e.val

/-! ## The takes -/

/-- The first take's indices: its row numbers. -/
theorem take_column (h : ∀ i, x3 i = 1#32) (e : Fin 16384) :
    val_main_call3_v5 (F := F) x3 (ix2 e (0 : Fin 1)) = BitVec.ofNat 32 e.val := by
  have hs : val_main_v16 (F := F) x3 (idx_main_call3_v5 (ix2 e (0 : Fin 1))) = BitVec.ofNat 32 e.val :=
    (congrArg _ (eq_ix1 _)).trans (positions h e)
  rw [val_main_call3_v5_apply, val_main_call3_v4_apply, val_main_call3_v1_apply, val_main_call3_v0_apply, val_main_call3_c_apply, hs]
  exact wrap_row e.isLt _

/-- The first take's indices are all in bounds. -/
theorem take_mask (h : ∀ i, x3 i = 1#32) (i : S16384.Idx) : val_main_call3_v12 (F := F) x3 i = 1#1 := by
  unfold val_main_call3_v12
  refine Host.reduce_andi_one _ _ _ _ i rfl fun j => ?_
  obtain ⟨e, z, rfl⟩ : ∃ (e : Fin 16384) (z : Fin 1), j = ix2 e z := ⟨j 0, j 1, eq_ix2 j⟩
  obtain rfl : z = 0 := Subsingleton.elim _ _
  rw [val_main_call3_v11_apply, val_main_call3_v7_apply, val_main_call3_v10_apply, take_column h, val_main_call3_v6_apply,
    val_main_call3_v9_apply, val_main_call3_v8_apply]
  exact row_in_bounds e.isLt

/-- The segment of row `e` is `e`. -/
theorem segment (h : ∀ i, x3 i = 1#32) (e : Fin 16384) : val_main_v17 (F := F) x3 (ix1 e) = BitVec.ofNat 32 e.val := by
  rw [val_main_v17_apply, take_mask h]
  refine (if_pos rfl).trans ?_
  unfold val_main_call3_v13
  rw [gather_take1 (N := 16384) (n := 16384) gather_S16384_S16384x1_S16384_n_0_n_n_0_1_1 rfl rfl rfl rfl (val_main_v0 (F := F))
    (val_main_call3_v5 (F := F) x3) e e (take_column h e) (by decide)]
  rfl

/-- The second take's indices: its row numbers. -/
theorem take5_column (h : ∀ i, x3 i = 1#32) (e : Fin 16384) :
    val_main_call5_v5 (F := F) x3 (ix2 e (0 : Fin 1)) = BitVec.ofNat 32 e.val := by
  have hs : val_main_v20 (F := F) x3 (idx_main_call5_v5 (ix2 e (0 : Fin 1))) = BitVec.ofNat 32 e.val :=
    (congrArg _ (eq_ix1 _)).trans (lasts h e)
  rw [val_main_call5_v5_apply, val_main_call5_v4_apply, val_main_call5_v1_apply, val_main_call5_v0_apply, val_main_call5_c_apply, hs]
  exact wrap_row e.isLt _

/-- The second take's indices are all in bounds. -/
theorem take5_mask (h : ∀ i, x3 i = 1#32) (i : S16384.Idx) : val_main_call5_v12 (F := F) x3 i = 1#1 := by
  unfold val_main_call5_v12
  refine Host.reduce_andi_one _ _ _ _ i rfl fun j => ?_
  obtain ⟨e, z, rfl⟩ : ∃ (e : Fin 16384) (z : Fin 1), j = ix2 e z := ⟨j 0, j 1, eq_ix2 j⟩
  obtain rfl : z = 0 := Subsingleton.elim _ _
  rw [val_main_call5_v11_apply, val_main_call5_v7_apply, val_main_call5_v10_apply, take5_column h, val_main_call5_v6_apply,
    val_main_call5_v9_apply, val_main_call5_v8_apply]
  exact row_in_bounds e.isLt

/-- The last node of each section is the node itself. -/
theorem last_nodes (h : ∀ i, x3 i = 1#32) (x0 : (⟨S16384x256, .f32⟩ : BufTy).Contents (Elt F)) : val_main_v21 (F := F) x0 x3 = x0 := by
  funext j
  obtain ⟨e, k, rfl⟩ : ∃ (e : Fin 16384) (k : Fin 256), j = ix2 e k := ⟨j 0, j 1, eq_ix2 j⟩
  rw [val_main_v21_apply, val_main_call5_v14_apply, take5_mask h]
  refine (if_pos rfl).trans ?_
  unfold val_main_call5_v13
  exact gather_row (nb := 16384) (B := 256) (n := 16384) gather_S16384x256_S16384x1_S16384x256_1_0_n_n_0_1_1256 rfl rfl rfl rfl rfl x0
    (val_main_call5_v5 (F := F) x3) e k e (take5_column h e) (by decide)

/-- The third take's indices: its row numbers. -/
theorem take6_column (h : ∀ i, x3 i = 1#32) (e : Fin 16384) :
    val_main_call6_v5 (F := F) x3 (ix2 e (0 : Fin 1)) = BitVec.ofNat 32 e.val := by
  have hs : val_main_v17 (F := F) x3 (idx_main_call6_v5 (ix2 e (0 : Fin 1))) = BitVec.ofNat 32 e.val :=
    (congrArg _ (eq_ix1 _)).trans (segment h e)
  rw [val_main_call6_v5_apply, val_main_call6_v4_apply, val_main_call6_v1_apply, val_main_call6_v0_apply, val_main_call6_c_apply, hs]
  exact wrap_row e.isLt _

/-- The third take's indices are all in bounds. -/
theorem take6_mask (h : ∀ i, x3 i = 1#32) (i : S16384.Idx) : val_main_call6_v12 (F := F) x3 i = 1#1 := by
  unfold val_main_call6_v12
  refine Host.reduce_andi_one _ _ _ _ i rfl fun j => ?_
  obtain ⟨e, z, rfl⟩ : ∃ (e : Fin 16384) (z : Fin 1), j = ix2 e z := ⟨j 0, j 1, eq_ix2 j⟩
  obtain rfl : z = 0 := Subsingleton.elim _ _
  rw [val_main_call6_v11_apply, val_main_call6_v7_apply, val_main_call6_v10_apply, take6_column h, val_main_call6_v6_apply,
    val_main_call6_v9_apply, val_main_call6_v8_apply]
  exact row_in_bounds e.isLt

/-- Every row's copy of its section's last node is the row's own node. -/
theorem repeated_nodes (h : ∀ i, x3 i = 1#32) (x0 : (⟨S16384x256, .f32⟩ : BufTy).Contents (Elt F)) : val_main_v22 (F := F) x0 x3 = x0 := by
  funext j
  obtain ⟨e, k, rfl⟩ : ∃ (e : Fin 16384) (k : Fin 256), j = ix2 e k := ⟨j 0, j 1, eq_ix2 j⟩
  rw [val_main_v22_apply, val_main_call6_v14_apply, take6_mask h]
  refine (if_pos rfl).trans ?_
  unfold val_main_call6_v13
  rw [last_nodes h]
  exact gather_row (nb := 16384) (B := 256) (n := 16384) gather_S16384x256_S16384x1_S16384x256_1_0_n_n_0_1_1256 rfl rfl rfl rfl rfl x0
    (val_main_call6_v5 (F := F) x3) e k e (take6_column h e) (by decide)

/-- The segment numbers as the indices of the segment sum. -/
theorem segment_column (h : ∀ i, x3 i = 1#32) (e : Fin 16384) :
    val_main_v45 (F := F) x3 (ix2 e (0 : Fin 1)) = BitVec.ofNat 32 e.val :=
  (val_main_v45_apply x3 _).trans ((congrArg _ (eq_ix1 _)).trans (segment h e))

/-! ## The segment sum -/

/-- Row `(e, k)` of the segment sum's updates lands at row `(e', k')` exactly when the two are equal. -/
theorem lands_row (idx : IVec (shape2 16384 1) 32) (hidx : ∀ e : Fin 16384, idx (ix2 e (0 : Fin 1)) = BitVec.ofNat 32 e.val)
    (e e' : Fin 16384) (k k' : Fin 256) :
    (scatter_S16384x256_S16384x1_S16384x256_1_0_0_1).resultIdx? (ix2 e k) idx = some (ix2 e' k') ↔ e = e' ∧ k = k' := by
  have hstart0 : (scatter_S16384x256_S16384x1_S16384x256_1_0_0_1).start (ix2 e k) idx 0 = (e.val : Int) := by
    have hsi : (scatter_S16384x256_S16384x1_S16384x256_1_0_0_1).siIdx (ix2 e k) ⟨0, by decide⟩ = ix2 e (0 : Fin 1) := by
      funext b
      match b with
      | ⟨0, _⟩ => rfl
      | ⟨1, _⟩ => rfl
    have : (scatter_S16384x256_S16384x1_S16384x256_1_0_0_1).start (ix2 e k) idx 0
        = (idx ((scatter_S16384x256_S16384x1_S16384x256_1_0_0_1).siIdx (ix2 e k) ⟨0, by decide⟩)).toInt := rfl
    rw [this, hsi, hidx, toInt_row e.isLt]
  have hstart1 : (scatter_S16384x256_S16384x1_S16384x256_1_0_0_1).start (ix2 e k) idx 1 = 0 := rfl
  have hwin0 : (scatter_S16384x256_S16384x1_S16384x256_1_0_0_1).window (ix2 e k) 0 = 0 := rfl
  have hwin1 : (scatter_S16384x256_S16384x1_S16384x256_1_0_0_1).window (ix2 e k) 1 = k.val := rfl
  have key := resultIdx?_ix2 (R := 16384) (C := 256) scatter_S16384x256_S16384x1_S16384x256_1_0_0_1 (ix2 e k) idx e' k'
  rw [hstart0, hstart1, hwin0, hwin1] at key
  rw [key, Fin.ext_iff, Fin.ext_iff]
  omega

/-- The segment sum of an array, one row to a segment, adds the array to the initial value. -/
theorem segment_sum (h : ∀ i, x3 i = 1#32) (x upd : S16384x256.Idx → EReal) (j : S16384x256.Idx) :
    Ideal.hostScatterAdd scatter_S16384x256_S16384x1_S16384x256_1_0_0_1 x (val_main_v45 (F := F) x3) upd j = x j + upd j := by
  unfold Ideal.hostScatterAdd
  refine congrArg (x j + ·) ?_
  refine (Finset.sum_congr (Finset.ext fun i => ?_) fun _ _ => rfl).trans (Finset.sum_singleton upd j)
  obtain ⟨e, k, rfl⟩ : ∃ (e : Fin 16384) (k : Fin 256), i = ix2 e k := ⟨i 0, i 1, eq_ix2 i⟩
  obtain ⟨e', k', rfl⟩ : ∃ (e : Fin 16384) (k : Fin 256), j = ix2 e k := ⟨j 0, j 1, eq_ix2 j⟩
  rw [Finset.mem_filter, Finset.mem_singleton, lands_row _ (segment_column h)]
  constructor
  · rintro ⟨-, rfl, rfl⟩; rfl
  · intro q
    exact ⟨Finset.mem_univ _, congrFun q 0, congrFun q 1⟩

end Cert.Segments
-- ==== Proof.RefValue.lean ====
/- The reference's result when every section holds one node: entry `(r, j)` is `Cert.RowMath.refRow` over row `r` of the
   arguments. -/
module

public import proofs.«01_k».proof.Proof.Segments
public import proofs.«01_k».proof.Proof.RowMath
public import Idealize.ShloMosaic.Lib.Pointwise

@[expose] public section

set_option maxRecDepth 65536

noncomputable section

namespace Cert.RefValue

open Idealize.ShloMosaic Cert.RowMath
open Cert.ReferenceIdeal Cert.ReferenceIdeal.Gen Cert.ReferenceIdeal.Read

/-- The reference's result as a function of the arguments it depends on besides the section sizes. -/
def refOut (n g u : S16384x256.Idx → EReal) (cnt : S16384.Idx → EReal) (W1 : S1x256.Idx → EReal) (b1 : S1.Idx → EReal)
    (W2 : S256x1024.Idx → EReal) (b2 : S256.Idx → EReal) (W5 : S256x512.Idx → EReal) (b5 : S256.Idx → EReal) : S16384x256.Idx → EReal :=
  fun i => refRow (fun k => n (ix2 (i 0) k)) (fun k => g (ix2 (i 0) k)) (fun k => u (ix2 (i 0) k)) (cnt (ix1 (i 0)))
    (fun h k => W2 (ix2 h k)) (fun h => b2 (ix1 h)) (fun h => W1 (ix2 0 h)) (b1 (ix1 0)) (fun j k => W5 (ix2 j k)) (fun j => b5 (ix1 j)) (i 1)

variable (x0 x1 : FVec Ideal S16384x256 .f32) (x3 : IVec S16384 32) (x4 : FVec Ideal S16384 .f32) (x7 : FVec Ideal S16384x256 .f32)
  (x8 : FVec Ideal S1x256 .f32) (x9 : FVec Ideal S1 .f32) (x10 : FVec Ideal S256x1024 .f32) (x11 : FVec Ideal S256 .f32)
  (x12 : FVec Ideal S256x512 .f32) (x13 : FVec Ideal S256 .f32)

variable {x3}

/-- A sum over the 1024 columns of four arrays of 256 columns laid side by side is the sum of the four arrays' own sums. -/
theorem sum_quarters (a b c d : Fin 256 → EReal) (w : Fin 1024 → EReal) :
    (∑ x : Fin 1024,
        (if h : x.val < 256 then a ⟨x.val, h⟩
          else if h' : x.val - 256 < 256 then b ⟨x.val - 256, h'⟩
          else if h'' : x.val - 256 - 256 < 256 then c ⟨x.val - 256 - 256, h''⟩
          else d ⟨x.val - 256 - 256 - 256, by omega⟩) * w x)
      = (∑ k : Fin 256, a k * w ⟨k.val, by omega⟩)
        + ((∑ k : Fin 256, b k * w ⟨256 + k.val, by omega⟩)
          + ((∑ k : Fin 256, c k * w ⟨512 + k.val, by omega⟩) + (∑ k : Fin 256, d k * w ⟨768 + k.val, by omega⟩))) := by
  rw [show (∀ f : Fin 1024 → EReal, (∑ x : Fin 1024, f x) = ∑ x : Fin (256 + (256 + (256 + 256))), f x) from fun _ => rfl,
    Fin.sum_univ_add, Fin.sum_univ_add, Fin.sum_univ_add]
  refine congrArg₂ (· + ·) (Finset.sum_congr rfl fun k _ => ?_) (congrArg₂ (· + ·) (Finset.sum_congr rfl fun k _ => ?_)
    (congrArg₂ (· + ·) (Finset.sum_congr rfl fun k _ => ?_) (Finset.sum_congr rfl fun k _ => ?_)))
  · rw [dif_pos (by simp)]; rfl
  · rw [dif_neg (by simp), dif_pos (by simp)]
    congr 2 <;> ext <;> simp
  · rw [dif_neg (by simp), dif_neg (by simp), dif_pos (by simp)]
    congr 2 <;> ext <;> simp <;> omega
  · rw [dif_neg (by simp), dif_neg (by simp), dif_neg (by simp)]
    congr 2 <;> ext <;> simp <;> omega

/-- The reference's hidden layer before the logistic function. -/
theorem hidden_apply (h3 : ∀ i, x3 i = 1#32) (r : Fin 16384) (h : Fin 256) :
    val_main_v28 (F := Ideal) x0 x1 x3 x7 x10 x11 (ix2 r h)
      = refHidden (fun k => x0 (ix2 r k)) (fun k => x1 (ix2 r k)) (fun k => x7 (ix2 r k)) (fun h k => x10 (ix2 h k)) (fun h => x11 (ix1 h)) h := by
  unfold val_main_v28 val_main_v27 val_main_v26 val_main_v25 val_main_v24 val_main_v23
  rw [Segments.repeated_nodes h3]
  pointwise
  exact congrArg (· + x11 (ix1 h)) (sum_quarters (fun k => x0 (ix2 r k)) (fun k => x0 (ix2 r k)) (fun k => x1 (ix2 r k))
    (fun k => x7 (ix2 r k)) (fun k => x10 (ix2 h k)))

/-- The reference's row weight: the row's count times its attention weight. -/
theorem weight_apply (h3 : ∀ i, x3 i = 1#32) (r : Fin 16384) :
    val_main_v41 (F := Ideal) x0 x1 x3 x4 x7 x8 x9 x10 x11 (ix2 r 0)
      = x4 (ix1 r) * refAttention (fun k => x0 (ix2 r k)) (fun k => x1 (ix2 r k)) (fun k => x7 (ix2 r k)) (fun h k => x10 (ix2 h k))
          (fun h => x11 (ix1 h)) (fun h => x8 (ix2 0 h)) (x9 (ix1 0)) := by
  unfold val_main_v41 val_main_v40 val_main_v39 val_main_v38 val_main_v37 val_main_v36 val_main_v35 val_main_v34 val_main_v33
    val_main_cst_7 val_main_v32 val_main_v31 val_main_cst val_main_v30 val_main_v29
  pointwise
  simp only [hidden_apply x0 x1 x7 x10 x11 h3]
  rfl

/-- The reference's segment sum: the node row times the row's weight. -/
theorem sum_apply (h3 : ∀ i, x3 i = 1#32) (r : Fin 16384) (k : Fin 256) :
    val_main_v46 (F := Ideal) x0 x1 x3 x4 x7 x8 x9 x10 x11 (ix2 r k)
      = val_main_v41 (F := Ideal) x0 x1 x3 x4 x7 x8 x9 x10 x11 (ix2 r 0) * x0 (ix2 r k) := by
  unfold val_main_v46
  refine (Segments.segment_sum (F := Ideal) h3 _ _ _).trans ?_
  unfold val_main_v44 val_main_cst_8 val_main_v43 val_main_v42
  pointwise

/-- THE REFERENCE'S RESULT when every section holds one node. -/
theorem result (h3 : ∀ i, x3 i = 1#32) :
    val_main_v52 (F := Ideal) x0 x1 x3 x4 x7 x8 x9 x10 x11 x12 x13 = refOut x0 x1 x7 x4 x8 x9 x10 x11 x12 x13 := by
  funext i
  obtain ⟨r, j, rfl⟩ : ∃ (r : Fin 16384) (j : Fin 256), i = ix2 r j := ⟨i 0, i 1, eq_ix2 i⟩
  unfold val_main_v52 val_main_v51 val_main_v50 val_main_v49 val_main_v48 val_main_v47
  rw [Segments.last_nodes h3]
  pointwise
  simp only [sum_apply x0 x1 x4 x7 x8 x9 x10 x11 h3, weight_apply x0 x1 x4 x7 x8 x9 x10 x11 h3]
  rfl

end Cert.RefValue
-- ==== Proof.Precondition.lean ====
/- What the precondition says of the arguments: every section holds one node, and the entries that it names are real. -/
module

public import proofs.«01_k».proof.Pre_one_node_each_and_finite
public import proofs.«01_k».proof.Proof.RowMath
public import Idealize.ShloMosaic.Lib.ReduceAll
public import Idealize.ShloMosaic.Lib.Pointwise

@[expose] public section

set_option maxRecDepth 65536

noncomputable section

namespace Cert.Precondition

open Idealize.ShloMosaic Cert.RowMath
open Cert.Pre_one_node_each_and_finite Cert.Pre_one_node_each_and_finite.Facts

variable [Cert.Pre_one_node_each_and_finite.Facts]

instance : Subsingleton S_.Idx := ⟨fun _ _ => funext fun d => d.elim0⟩

/-- The constant that the magnitudes are compared with is infinity. -/
theorem infinity : FloatOps.ofBits (F := Ideal) .f32 0x7F800000#32 = (⊤ : EReal) := by
  show Ideal.ofBits .f32 0x7F800000#32 = ⊤
  simp [Ideal.ofBits, Ideal.ieee]

/-- An entry whose magnitude the comparison finds below infinity is real. -/
theorem isReal_of_cmp {x : EReal} (h : FloatOps.cmpf (F := Ideal) (φ := .f32) .olt (FloatOps.hostAbsf (F := Ideal) (φ := .f32) x) (FloatOps.ofBits (F := Ideal) .f32 0x7F800000#32) = 1#1) :
    IsReal x := by
  rw [infinity] at h
  refine isReal_of_abs_lt (of_decide_eq_true ?_)
  revert h
  show BitVec.ofBool (decide (max x (-x) < ⊤)) = 1#1 → _
  cases decide (max x (-x) < ⊤) <;> simp

/-- A slice of the first 512 columns, at a column of the whole array. -/
theorem columns_first (x : FVec Ideal S256x1024 .f32) (r : Fin 256) (k : Fin 1024) (hk : k.val < 512) :
    extractStridedSlice S256x512 ![0, 0] x slices_S256x1024_S256x512_0_0 (ix2 r ⟨k.val, hk⟩) = x (ix2 r k) := by
  pointwise

/-- A slice of the last 256 columns, at a column of the whole array. -/
theorem columns_last (x : FVec Ideal S256x512 .f32) (r : Fin 256) (k : Fin 512) (hk : 256 ≤ k.val) :
    extractStridedSlice S256x256 ![0, 256] x slices_S256x512_S256x256_0_256 (ix2 r ⟨k.val - 256, by omega⟩) = x (ix2 r k) := by
  have e : (⟨256 + (k.val - 256), by omega⟩ : Fin 512) = k := Fin.ext (by simp; omega)
  pointwise
  rw [e]

/-- What the predicate says: sections of one node, and real entries in the node rows, the counts, the second attention layer's
    weights and bias, the first attention layer's columns for the two node parts, and the output layer's columns for the
    aggregated part. -/
theorem decode (x0 x1 : FVec Ideal S16384x256 .f32) (x2 : FVec Ideal S10000x256 .f32) (x3 : IVec S16384 32) (x4 : FVec Ideal S16384 .f32)
    (x5 : FVec Ideal S16384x256 .f32) (x6 : IVec S_ 32) (x7 : FVec Ideal S16384x256 .f32) (x8 : FVec Ideal S1x256 .f32) (x9 : FVec Ideal S1 .f32)
    (x10 : FVec Ideal S256x1024 .f32) (x11 : FVec Ideal S256 .f32) (x12 : FVec Ideal S256x512 .f32) (x13 : FVec Ideal S256 .f32)
    (o : S_.Idx) (h : fn (F := Ideal) x0 x1 x2 x3 x4 x5 x6 x7 x8 x9 x10 x11 x12 x13 o = 1#1) :
    (∀ i, x3 i = 1#32) ∧ (∀ i, IsReal (x0 i)) ∧ (∀ i, IsReal (x4 i)) ∧ (∀ i, IsReal (x8 i)) ∧ (∀ i, IsReal (x9 i))
      ∧ (∀ (r : Fin 256) (k : Fin 1024), k.val < 512 → IsReal (x10 (ix2 r k)))
      ∧ (∀ (r : Fin 256) (k : Fin 512), 256 ≤ k.val → IsReal (x12 (ix2 r k))) := by
  obtain ⟨h, h12⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h4⟩ := IntOp.andi_eq_one.1 h
  obtain ⟨h3, h0⟩ := IntOp.andi_eq_one.1 h
  refine ⟨fun i => IntOp.cmpi_eq.1 (Host.reduce_andi_all _ _ _ _ _ h3 i), fun i => isReal_of_cmp (Host.reduce_andi_all _ _ _ _ _ h0 i),
    fun i => isReal_of_cmp (Host.reduce_andi_all _ _ _ _ _ h4 i), fun i => isReal_of_cmp (Host.reduce_andi_all _ _ _ _ _ h8 i),
    fun i => isReal_of_cmp (Host.reduce_andi_all _ _ _ _ _ h9 i), fun r k hk => ?_, fun r k hk => ?_⟩
  · have e := isReal_of_cmp (Host.reduce_andi_all _ _ _ _ _ h10 (ix2 r ⟨k.val, hk⟩))
    exact columns_first x10 r k hk ▸ e
  · have e := isReal_of_cmp (Host.reduce_andi_all _ _ _ _ _ h12 (ix2 r ⟨k.val - 256, by omega⟩))
    exact columns_last x12 r k hk ▸ e

end Cert.Precondition
-- ==== Proof.lean ====
/- The proof of every claim: the kernel (as its devices compute it and over the extended reals) and the reference run to
   completion and leave their arguments unchanged; the kernel over the extended reals is the kernel's own text; and over the
   extended reals the kernel's result is the reference's whenever every section holds one node and the entries that the
   precondition names are finite. The kernel's result is read in `Proof/KernelValue.lean`, the reference's in
   `Proof/RefValue.lean`, the precondition in `Proof/Precondition.lean`; their equation is `Proof/RowMath.lean`'s. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_one_node_each_and_finite
public import proofs.«01_k».proof.Proof.KernelValue
public import proofs.«01_k».proof.Proof.RefValue
public import proofs.«01_k».proof.Proof.Precondition
public import Idealize.ShloMosaic.Lib.Claim
public import Idealize.ShloMosaic.Adequacy
public import Idealize.ShloMosaic.Init

@[expose] public section

set_option maxRecDepth 65536

noncomputable section

namespace Cert.Proof

open Idealize.ShloMosaic Idealize.ShloMosaic.TcCoe Idealize.SL.Sem Cert.RowMath

/-- The kernel's result function and the reference's agree where the entries that enter the two rearrangements are real. -/
theorem outputs_agree (n g u : Cert.KernelIdeal.S16384x256.Idx → EReal) (cnt : Cert.KernelIdeal.S16384.Idx → EReal)
    (W1 : Cert.KernelIdeal.S1x256.Idx → EReal) (b1 : Cert.KernelIdeal.S1.Idx → EReal) (W2 : Cert.KernelIdeal.S256x1024.Idx → EReal)
    (b2 : Cert.KernelIdeal.S256.Idx → EReal) (W5 : Cert.KernelIdeal.S256x512.Idx → EReal) (b5 : Cert.KernelIdeal.S256.Idx → EReal)
    (hn : ∀ i, IsReal (n i)) (hc : ∀ i, IsReal (cnt i)) (hW1 : ∀ i, IsReal (W1 i)) (hb1 : ∀ i, IsReal (b1 i))
    (hW2 : ∀ (h : Fin 256) (k : Fin 1024), k.val < 512 → IsReal (W2 (ix2 h k)))
    (hW5 : ∀ (h : Fin 256) (k : Fin 512), 256 ≤ k.val → IsReal (W5 (ix2 h k))) :
    Cert.KernelValue.kernelOut n g u cnt W1 b1 W2 b2 W5 b5 = Cert.RefValue.refOut n g u cnt W1 b1 W2 b2 W5 b5 :=
  funext fun i => kernelRow_eq (fun _ => hn _) (hc _) hW2 (fun _ => hW1 _) (hb1 _) hW5 (i 1)

/-- The reference runs to completion from any memory, its arguments end unchanged and every counter at zero. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Over the extended reals, under the precondition, the kernel's result is the reference's. -/
theorem algebraic : Cert.algebraic_KernelIdeal_ReferenceIdeal_pre_one_node_each_and_finite := by
  pair_intro
  · run_from Cert.KernelIdeal.Value.run_blocks m g
  · refine (θ_run (Cert.ReferenceIdeal.defs (F := Ideal)) _ _).mono (fun r h c => ⟨(h c).1.trans ?_, (h c).2⟩)
      (Cert.ReferenceIdeal.Value.run (F := Ideal) m' g')
    refine (Cert.ReferenceIdeal.Read.val_main_v52_eq (StableHlo.launchContents m' c)).trans ?_
    change Cert.ReferenceIdeal.Read.val_main_v52 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
    obtain ⟨a0, a1, -, a3, a4, -, -, a7, a8, a9, a10, a11, a12, a13⟩ := hagree c
    rw [a0, a1, a3, a4, a7, a8, a9, a10, a11, a12, a13]
    obtain ⟨h3, h0, h4, h8, h9, h10, h12⟩ := Cert.Precondition.decode _ _ _ _ _ _ _ _ _ _ _ _ _ _ (fun d => d.elim0) (congrFun (hpre c) _)
    rw [Cert.RefValue.result _ _ _ _ _ _ _ _ _ _ h3]
    exact (outputs_agree _ _ _ _ _ _ _ _ _ _ h0 h4 h8 h9 h10 h12).symm.trans (Cert.KernelValue.array m c).symm

/-- Every claim. -/
theorem claim : Cert.Claim :=
  ⟨Cert.Kernel.Gen.facts, Cert.KernelIdeal.Gen.facts, Cert.ReferenceIdeal.Gen.facts, Cert.Pre_one_node_each_and_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
